-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S100000 : S_.BroadcastsInDim S100000 (![] : Fin 0 → Fin S100000.rank)
  reducesTo_S100000_S_d0 : S100000.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg11 : FVec F S512 .f32) (main_arg12 : FVec F S512 .f32) (main_arg13 : FVec F S512 .f32) (main_v46 : IVec S_ 1) (main_v49 : IVec S512x512 1) : IVec S_ 1 :=
  let main_c_20 : IVec S_ 1 := constantI S_ 1 1#1
  let main_v50 : IVec S_ 1 := (fun x v => Host.reduce IntOp.andi x v reducesTo_S512x512_S_d0_1 h_S_) main_v49 main_c_20
  let main_v51 : IVec S_ 1 := andi main_v46 main_v50
  let main_v52 : FVec F S512 .f32 := Host.absf main_arg11
  let main_cst_21 : FVec F S_ .f32 := constant S_ .f32 0x7F800000#32
  let main_v53 : FVec F S512 .f32 := broadcastInDim S512 ![] bcast_S_S512 main_cst_21
  let main_v54 : IVec S512 1 := cmpf .olt main_v52 main_v53
  let main_c_22 : IVec S_ 1 := constantI S_ 1 1#1
  let main_v55 : IVec S_ 1 := (fun x v => Host.reduce IntOp.andi x v reducesTo_S512_S_d0 h_S_) main_v54 main_c_22
  let main_v56 : IVec S_ 1 := andi main_v51 main_v55
  let main_cst_23 : FVec F S_ .f32 := constant S_ .f32 0x3F800000#32
  let main_v57 : FVec F S512 .f32 := broadcastInDim S512 ![] bcast_S_S512 main_cst_23
  let main_v58 : IVec S512 1 := cmpf .oeq main_arg12 main_v57
  let main_c_24 : IVec S_ 1 := constantI S_ 1 1#1
  let main_v59 : IVec S_ 1 := (fun x v => Host.reduce IntOp.andi x v reducesTo_S512_S_d0 h_S_) main_v58 main_c_24
  let main_v60 : IVec S_ 1 := andi main_v56 main_v59
  let main_cst_25 : FVec F S_ .f32 := constant S_ .f32 0x00000000#32
  let main_v61 : FVec F S512 .f32 := broadcastInDim S512 ![] bcast_S_S512 main_cst_25
  let main_v62 : IVec S512 1 := cmpf .oeq main_arg13 main_v61
  let main_c_26 : IVec S_ 1 := constantI S_ 1 1#1
  let main_v63 : IVec S_ 1 := (fun x v => Host.reduce IntOp.andi x v reducesTo_S512_S_d0 h_S_) main_v62 main_c_26
  let main_v64 : IVec S_ 1 := andi main_v60 main_v63
  main_v64

def fn_part2 {F : FTy → Type} [FloatOps F] (main_arg7 : FVec F S512 .f32) (main_arg8 : FVec F S512 .f32) (main_arg9 : FVec F S512 .f32) (main_arg10 : FVec F S512x512 .f32) (main_arg11 : FVec F S512 .f32) (main_arg12 : FVec F S512 .f32) (main_arg13 : FVec F S512 .f32) (main_v28 : IVec S_ 1) (main_v32 : IVec S_ 1) : IVec S_ 1 :=
  let main_v33 : IVec S_ 1 := andi main_v28 main_v32
  let main_v34 : FVec F S512 .f32 := Host.absf main_arg7
  let main_cst_13 : FVec F S_ .f32 := constant S_ .f32 0x7F800000#32
  let main_v35 : FVec F S512 .f32 := broadcastInDim S512 ![] bcast_S_S512 main_cst_13
  let main_v36 : IVec S512 1 := cmpf .olt main_v34 main_v35
  let main_c_14 : IVec S_ 1 := constantI S_ 1 1#1
  let main_v37 : IVec S_ 1 := (fun x v => Host.reduce IntOp.andi x v reducesTo_S512_S_d0 h_S_) main_v36 main_c_14
  let main_v38 : IVec S_ 1 := andi main_v33 main_v37
  let main_cst_15 : FVec F S_ .f32 := constant S_ .f32 0x3F800000#32
  let main_v39 : FVec F S512 .f32 := broadcastInDim S512 ![] bcast_S_S512 main_cst_15
  let main_v40 : IVec S512 1 := cmpf .oeq main_arg8 main_v39
  let main_c_16 : IVec S_ 1 := constantI S_ 1 1#1
  let main_v41 : IVec S_ 1 := (fun x v => Host.reduce IntOp.andi x v reducesTo_S512_S_d0 h_S_) main_v40 main_c_16
  let main_v42 : IVec S_ 1 := andi main_v38 main_v41
  let main_cst_17 : FVec F S_ .f32 := constant S_ .f32 0x00000000#32
  let main_v43 : FVec F S512 .f32 := broadcastInDim S512 ![] bcast_S_S512 main_cst_17
  let main_v44 : IVec S512 1 := cmpf .oeq main_arg9 main_v43
  let main_c_18 : IVec S_ 1 := constantI S_ 1 1#1
  let main_v45 : IVec S_ 1 := (fun x v => Host.reduce IntOp.andi x v reducesTo_S512_S_d0 h_S_) main_v44 main_c_18
  let main_v46 : IVec S_ 1 := andi main_v42 main_v45
  let main_v47 : FVec F S512x512 .f32 := Host.absf main_arg10
  let main_cst_19 : FVec F S_ .f32 := constant S_ .f32 0x7F800000#32
  let main_v48 : FVec F S512x512 .f32 := broadcastInDim S512x512 ![] bcast_S_S512x512 main_cst_19
  let main_v49 : IVec S512x512 1 := cmpf .olt main_v47 main_v48
  fn_part3 (F := F) main_arg11 main_arg12 main_arg13 main_v46 main_v49

def fn_part1 {F : FTy → Type} [FloatOps F] (main_arg4 : FVec F S512 .f32) (main_arg5 : FVec F S512 .f32) (main_arg6 : FVec F S512x512 .f32) (main_arg7 : FVec F S512 .f32) (main_arg8 : FVec F S512 .f32) (main_arg9 : FVec F S512 .f32) (main_arg10 : FVec F S512x512 .f32) (main_arg11 : FVec F S512 .f32) (main_arg12 : FVec F S512 .f32) (main_arg13 : FVec F S512 .f32) (main_v15 : IVec S_ 1) (main_v16 : FVec F S512 .f32) : IVec S_ 1 :=
  let main_cst_5 : FVec F S_ .f32 := constant S_ .f32 0x7F800000#32
  let main_v17 : FVec F S512 .f32 := broadcastInDim S512 ![] bcast_S_S512 main_cst_5
  let main_v18 : IVec S512 1 := cmpf .olt main_v16 main_v17
  let main_c_6 : IVec S_ 1 := constantI S_ 1 1#1
  let main_v19 : IVec S_ 1 := (fun x v => Host.reduce IntOp.andi x v reducesTo_S512_S_d0 h_S_) main_v18 main_c_6
  let main_v20 : IVec S_ 1 := andi main_v15 main_v19
  let main_cst_7 : FVec F S_ .f32 := constant S_ .f32 0x3F800000#32
  let main_v21 : FVec F S512 .f32 := broadcastInDim S512 ![] bcast_S_S512 main_cst_7
  let main_v22 : IVec S512 1 := cmpf .oeq main_arg4 main_v21
  let main_c_8 : IVec S_ 1 := constantI S_ 1 1#1
  let main_v23 : IVec S_ 1 := (fun x v => Host.reduce IntOp.andi x v reducesTo_S512_S_d0 h_S_) main_v22 main_c_8
  let main_v24 : IVec S_ 1 := andi main_v20 main_v23
  let main_cst_9 : FVec F S_ .f32 := constant S_ .f32 0x00000000#32
  let main_v25 : FVec F S512 .f32 := broadcastInDim S512 ![] bcast_S_S512 main_cst_9
  let main_v26 : IVec S512 1 := cmpf .oeq main_arg5 main_v25
  let main_c_10 : IVec S_ 1 := constantI S_ 1 1#1
  let main_v27 : IVec S_ 1 := (fun x v => Host.reduce IntOp.andi x v reducesTo_S512_S_d0 h_S_) main_v26 main_c_10
  let main_v28 : IVec S_ 1 := andi main_v24 main_v27
  let main_v29 : FVec F S512x512 .f32 := Host.absf main_arg6
  let main_cst_11 : FVec F S_ .f32 := constant S_ .f32 0x7F800000#32
  let main_v30 : FVec F S512x512 .f32 := broadcastInDim S512x512 ![] bcast_S_S512x512 main_cst_11
  let main_v31 : IVec S512x512 1 := cmpf .olt main_v29 main_v30
  let main_c_12 : IVec S_ 1 := constantI S_ 1 1#1
  let main_v32 : IVec S_ 1 := (fun x v => Host.reduce IntOp.andi x v reducesTo_S512x512_S_d0_1 h_S_) main_v31 main_c_12
  fn_part2 (F := F) main_arg7 main_arg8 main_arg9 main_arg10 main_arg11 main_arg12 main_arg13 main_v28 main_v32

def fn {F : FTy → Type} [FloatOps F] (main_arg0 : FVec F S100000x512 .f32) (main_arg1 : IVec S100000 32) (main_arg2 : FVec F S512x512 .f32) (main_arg3 : FVec F S512 .f32) (main_arg4 : FVec F S512 .f32) (main_arg5 : FVec F S512 .f32) (main_arg6 : FVec F S512x512 .f32) (main_arg7 : FVec F S512 .f32) (main_arg8 : FVec F S512 .f32) (main_arg9 : FVec F S512 .f32) (main_arg10 : FVec F S512x512 .f32) (main_arg11 : FVec F S512 .f32) (main_arg12 : FVec F S512 .f32) (main_arg13 : FVec F S512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_c_0 : IVec S_ 32 := constantI S_ 32 0#32
  let main_v4 : IVec S100000 32 := broadcastInDim S100000 ![] bcast_S_S100000 main_c_0
  let main_v5 : IVec S100000 1 := cmpi .sge main_arg1 main_v4
  let main_c_1 : IVec S_ 32 := constantI S_ 32 3#32
  let main_v6 : IVec S100000 32 := broadcastInDim S100000 ![] bcast_S_S100000 main_c_1
  let main_v7 : IVec S100000 1 := cmpi .slt main_arg1 main_v6
  let main_v8 : IVec S100000 1 := andi main_v5 main_v7
  let main_c_2 : IVec S_ 1 := constantI S_ 1 1#1
  let main_v9 : IVec S_ 1 := (fun x v => Host.reduce IntOp.andi x v reducesTo_S100000_S_d0 h_S_) main_v8 main_c_2
  let main_v10 : IVec S_ 1 := andi main_v3 main_v9
  let main_v11 : FVec F S512x512 .f32 := Host.absf main_arg2
  let main_cst_3 : FVec F S_ .f32 := constant S_ .f32 0x7F800000#32
  let main_v12 : FVec F S512x512 .f32 := broadcastInDim S512x512 ![] bcast_S_S512x512 main_cst_3
  let main_v13 : IVec S512x512 1 := cmpf .olt main_v11 main_v12
  let main_c_4 : IVec S_ 1 := constantI S_ 1 1#1
  let main_v14 : IVec S_ 1 := (fun x v => Host.reduce IntOp.andi x v reducesTo_S512x512_S_d0_1 h_S_) main_v13 main_c_4
  let main_v15 : IVec S_ 1 := andi main_v10 main_v14
  let main_v16 : FVec F S512 .f32 := Host.absf main_arg3
  fn_part1 (F := F) main_arg4 main_arg5 main_arg6 main_arg7 main_arg8 main_arg9 main_arg10 main_arg11 main_arg12 main_arg13 main_v15 main_v16
-- ==== Kernel.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S1536x512 : Shape := ⟨2, ![1536, 512]⟩
abbrev S1x512 : Shape := ⟨2, ![1, 512]⟩
abbrev S3x512 : Shape := ⟨2, ![3, 512]⟩
abbrev S3x1x512 : Shape := ⟨3, ![3, 1, 512]⟩
abbrev S100000x1 : Shape := ⟨2, ![100000, 1]⟩
abbrev S2000x1 : Shape := ⟨2, ![2000, 1]⟩
abbrev S2000x512 : Shape := ⟨2, ![2000, 512]⟩
abbrev S2000x1536 : Shape := ⟨2, ![2000, 1536]⟩
abbrev S1x1x512 : Shape := ⟨3, ![1, 1, 512]⟩
abbrev S2000 : Shape := ⟨1, ![2000]⟩

abbrev nBuf : Space → Nat
  | .hbm => 26
  | .vmem => 8
  | .smem => 0
  | _ => 0

abbrev bufTy : (tb : Table) → Fin (tcTables nBuf tb) → BufTy
  | .hbm, ⟨0, _⟩ => ⟨S100000x512, .f32⟩
  | .hbm, ⟨1, _⟩ => ⟨S100000, .i32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S1536x512, .f32⟩
  | .hbm, ⟨18, _⟩ => ⟨S1536x512, .bf16⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S3x512, .f32⟩
  | .hbm, ⟨23, _⟩ => ⟨S3x1x512, .f32⟩
  | .hbm, ⟨24, _⟩ => ⟨S100000x1, .i32⟩
  | .hbm, ⟨25, _⟩ => ⟨S100000x512, .f32⟩
  | .local _ .vmem, ⟨0, _⟩ => ⟨S2000x1, .i32⟩
  | .local _ .vmem, ⟨1, _⟩ => ⟨S2000x1, .i32⟩
  | .local _ .vmem, ⟨2, _⟩ => ⟨S2000x512, .f32⟩
  | .local _ .vmem, ⟨3, _⟩ => ⟨S2000x512, .f32⟩
  | .local _ .vmem, ⟨4, _⟩ => ⟨S1536x512, .bf16⟩
  | .local _ .vmem, ⟨5, _⟩ => ⟨S3x1x512, .f32⟩
  | .local _ .vmem, ⟨6, _⟩ => ⟨S2000x512, .f32⟩
  | .local _ .vmem, ⟨7, _⟩ => ⟨S2000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S100000x512 : Shape := ⟨2, ![100000, 512]⟩
abbrev S100000 : Shape := ⟨1, ![100000]⟩
abbrev S512x512 : Shape := ⟨2, ![512, 512]⟩
abbrev S512 : Shape := ⟨1, ![512]⟩
abbrev S_ : Shape := ⟨0, ![]⟩
abbrev S1x512 : Shape := ⟨2, ![1, 512]⟩
abbrev S100000x1 : Shape := ⟨2, ![100000, 1]⟩

abbrev nBuf : Space → Nat
  | .hbm => 190
  | .vmem => 0
  | .smem => 0
  | _ => 0

abbrev hbmTy0_0 (i : Nat) : BufTy := match i % 128 with
  | 0 => ⟨S100000x512, .f32⟩
  | 1 => ⟨S100000, .i32⟩
  | 2 => ⟨S512x512, .f32⟩
  | 3 => ⟨S512, .f32⟩
  | 4 => ⟨S512, .f32⟩
  | 5 => ⟨S512, .f32⟩
  | 6 => ⟨S512x512, .f32⟩
  | 7 => ⟨S512, .f32⟩
  | 8 => ⟨S512, .f32⟩
  | 9 => ⟨S512, .f32⟩
  | 10 => ⟨S512x512, .f32⟩
  | 11 => ⟨S512, .f32⟩
  | 12 => ⟨S512, .f32⟩
  | 13 => ⟨S512, .f32⟩
  | 14 => ⟨S_, .f32⟩
  | 15 => ⟨S100000x512, .f32⟩
  | 16 => ⟨S512x512, .f32⟩
  | 17 => ⟨S100000x512, .f32⟩
  | 18 => ⟨S1x512, .f32⟩
  | 19 => ⟨S100000x512, .f32⟩
  | 20 => ⟨S100000x512, .f32⟩
  | 21 => ⟨S_, .f32⟩
  | 22 => ⟨S100000, .f32⟩
  | 23 => ⟨S100000x1, .f32⟩
  | 24 => ⟨S_, .f32⟩
  | 25 => ⟨S100000x1, .f32⟩
  | 26 => ⟨S100000x1, .f32⟩
  | 27 => ⟨S_, .i32⟩
  | 28 => ⟨S_, .f32⟩
  | 29 => ⟨S100000, .f32⟩
  | 30 => ⟨S100000x1, .f32⟩
  | 31 => ⟨S_, .f32⟩
  | 32 => ⟨S100000x1, .f32⟩
  | 33 => ⟨S100000x1, .f32⟩
  | 34 => ⟨S100000x512, .f32⟩
  | 35 => ⟨S100000x512, .f32⟩
  | 36 => ⟨S100000x512, .f32⟩
  | 37 => ⟨S_, .f32⟩
  | 38 => ⟨S_, .f32⟩
  | 39 => ⟨S_, .f32⟩
  | 40 => ⟨S_, .f32⟩
  | 41 => ⟨S100000, .f32⟩
  | 42 => ⟨S100000x1, .f32⟩
  | 43 => ⟨S100000x1, .f32⟩
  | 44 => ⟨S100000x1, .f32⟩
  | 45 => ⟨S_, .f32⟩
  | 46 => ⟨S_, .i1⟩
  | 47 => ⟨S_, .f32⟩
  | 48 => ⟨S_, .f32⟩
  | 49 => ⟨S100000x1, .f32⟩
  | 50 => ⟨S100000x1, .f32⟩
  | 51 => ⟨S100000x512, .f32⟩
  | 52 => ⟨S100000x512, .f32⟩
  | 53 => ⟨S_, .f32⟩
  | 54 => ⟨S100000x1, .f32⟩
  | 55 => ⟨S100000x1, .f32⟩
  | 56 => ⟨S100000x1, .f32⟩
  | 57 => ⟨S100000x512, .f32⟩
  | 58 => ⟨S100000x512, .f32⟩
  | 59 => ⟨S1x512, .f32⟩
  | 60 => ⟨S100000x512, .f32⟩
  | 61 => ⟨S100000x512, .f32⟩
  | 62 => ⟨S1x512, .f32⟩
  | 63 => ⟨S100000x512, .f32⟩
  | 64 => ⟨S100000x512, .f32⟩
  | 65 => ⟨S_, .f32⟩
  | 66 => ⟨S100000x512, .f32⟩
  | 67 => ⟨S100000x512, .f32⟩
  | 68 => ⟨S_, .i32⟩
  | 69 => ⟨S100000, .i32⟩
  | 70 => ⟨S100000, .i1⟩
  | 71 => ⟨S100000x1, .i1⟩
  | 72 => ⟨S100000x512, .i1⟩
  | 73 => ⟨S100000x512, .f32⟩
  | 74 => ⟨S512x512, .f32⟩
  | 75 => ⟨S100000x512, .f32⟩
  | 76 => ⟨S1x512, .f32⟩
  | 77 => ⟨S100000x512, .f32⟩
  | 78 => ⟨S100000x512, .f32⟩
  | 79 => ⟨S_, .f32⟩
  | 80 => ⟨S100000, .f32⟩
  | 81 => ⟨S100000x1, .f32⟩
  | 82 => ⟨S_, .f32⟩
  | 83 => ⟨S100000x1, .f32⟩
  | 84 => ⟨S100000x1, .f32⟩
  | 85 => ⟨S_, .i32⟩
  | 86 => ⟨S_, .f32⟩
  | 87 => ⟨S100000, .f32⟩
  | 88 => ⟨S100000x1, .f32⟩
  | 89 => ⟨S_, .f32⟩
  | 90 => ⟨S100000x1, .f32⟩
  | 91 => ⟨S100000x1, .f32⟩
  | 92 => ⟨S100000x512, .f32⟩
  | 93 => ⟨S100000x512, .f32⟩
  | 94 => ⟨S100000x512, .f32⟩
  | 95 => ⟨S_, .f32⟩
  | 96 => ⟨S_, .f32⟩
  | 97 => ⟨S_, .f32⟩
  | 98 => ⟨S_, .f32⟩
  | 99 => ⟨S100000, .f32⟩
  | 100 => ⟨S100000x1, .f32⟩
  | 101 => ⟨S100000x1, .f32⟩
  | 102 => ⟨S100000x1, .f32⟩
  | 103 => ⟨S_, .f32⟩
  | 104 => ⟨S_, .i1⟩
  | 105 => ⟨S_, .f32⟩
  | 106 => ⟨S_, .f32⟩
  | 107 => ⟨S100000x1, .f32⟩
  | 108 => ⟨S100000x1, .f32⟩
  | 109 => ⟨S100000x512, .f32⟩
  | 110 => ⟨S100000x512, .f32⟩
  | 111 => ⟨S_, .f32⟩
  | 112 => ⟨S100000x1, .f32⟩
  | 113 => ⟨S100000x1, .f32⟩
  | 114 => ⟨S100000x1, .f32⟩
  | 115 => ⟨S100000x512, .f32⟩
  | 116 => ⟨S100000x512, .f32⟩
  | 117 => ⟨S1x512, .f32⟩
  | 118 => ⟨S100000x512, .f32⟩
  | 119 => ⟨S100000x512, .f32⟩
  | 120 => ⟨S1x512, .f32⟩
  | 121 => ⟨S100000x512, .f32⟩
  | 122 => ⟨S100000x512, .f32⟩
  | 123 => ⟨S_, .f32⟩
  | 124 => ⟨S100000x512, .f32⟩
  | 125 => ⟨S100000x512, .f32⟩
  | 126 => ⟨S_, .i32⟩
  | 127 => ⟨S100000, .i32⟩
  | _ => ⟨S100000x512, .f32⟩

abbrev hbmTy0_1 (i : Nat) : BufTy := match i % 128 with
  | 0 => ⟨S100000, .i1⟩
  | 1 => ⟨S100000x1, .i1⟩
  | 2 => ⟨S100000x512, .i1⟩
  | 3 => ⟨S100000x512, .f32⟩
  | 4 => ⟨S512x512, .f32⟩
  | 5 => ⟨S100000x512, .f32⟩
  | 6 => ⟨S1x512, .f32⟩
  | 7 => ⟨S100000x512, .f32⟩
  | 8 => ⟨S100000x512, .f32⟩
  | 9 => ⟨S_, .f32⟩
  | 10 => ⟨S100000, .f32⟩
  | 11 => ⟨S100000x1, .f32⟩
  | 12 => ⟨S_, .f32⟩
  | 13 => ⟨S100000x1, .f32⟩
  | 14 => ⟨S100000x1, .f32⟩
  | 15 => ⟨S_, .i32⟩
  | 16 => ⟨S_, .f32⟩
  | 17 => ⟨S100000, .f32⟩
  | 18 => ⟨S100000x1, .f32⟩
  | 19 => ⟨S_, .f32⟩
  | 20 => ⟨S100000x1, .f32⟩
  | 21 => ⟨S100000x1, .f32⟩
  | 22 => ⟨S100000x512, .f32⟩
  | 23 => ⟨S100000x512, .f32⟩
  | 24 => ⟨S100000x512, .f32⟩
  | 25 => ⟨S_, .f32⟩
  | 26 => ⟨S_, .f32⟩
  | 27 => ⟨S_, .f32⟩
  | 28 => ⟨S_, .f32⟩
  | 29 => ⟨S100000, .f32⟩
  | 30 => ⟨S100000x1, .f32⟩
  | 31 => ⟨S100000x1, .f32⟩
  | 32 => ⟨S100000x1, .f32⟩
  | 33 => ⟨S_, .f32⟩
  | 34 => ⟨S_, .i1⟩
  | 35 => ⟨S_, .f32⟩
  | 36 => ⟨S_, .f32⟩
  | 37 => ⟨S100000x1, .f32⟩
  | 38 => ⟨S100000x1, .f32⟩
  | 39 => ⟨S100000x512, .f32⟩
  | 40 => ⟨S100000x512, .f32⟩
  | 41 => ⟨S_, .f32⟩
  | 42 => ⟨S100000x1, .f32⟩
  | 43 => ⟨S100000x1, .f32⟩
  | 44 => ⟨S100000x1, .f32⟩
  | 45 => ⟨S100000x512, .f32⟩
  | 46 => ⟨S100000x512, .f32⟩
  | 47 => ⟨S1x512, .f32⟩
  | 48 => ⟨S100000x512, .f32⟩
  | 49 => ⟨S100000x512, .f32⟩
  | 50 => ⟨S1x512, .f32⟩
  | 51 => ⟨S100000x512, .f32⟩
  | 52 => ⟨S100000x512, .f32⟩
  | 53 => ⟨S_, .f32⟩
  | 54 => ⟨S100000x512, .f32⟩
  | 55 => ⟨S100000x512, .f32⟩
  | 56 => ⟨S_, .i32⟩
  | 57 => ⟨S100000, .i32⟩
  | 58 => ⟨S100000, .i1⟩
  | 59 => ⟨S100000x1, .i1⟩
  | 60 => ⟨S100000x512, .i1⟩
  | 61 => ⟨S100000x512, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_cst_3 : Ref sig .tc := ⟨.hbm, 45, rfl⟩
abbrev main_call0_v13 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_cst_2 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_call1_cst : Ref sig .tc := ⟨.hbm, 65, rfl⟩
abbrev main_call1_v0 : Ref sig .tc := ⟨.hbm, 66, rfl⟩
abbrev main_v24 : Ref sig .tc := ⟨.hbm, 67, rfl⟩
abbrev main_c_3 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_call2_v0 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_cst_4 : Ref sig .tc := ⟨.hbm, 79, rfl⟩
abbrev main_v34 : Ref sig .tc := ⟨.hbm, 80, rfl⟩
abbrev main_v35 : Ref sig .tc := ⟨.hbm, 81, rfl⟩
abbrev main_cst_5 : Ref sig .tc := ⟨.hbm, 82, rfl⟩
abbrev main_v36 : Ref sig .tc := ⟨.hbm, 83, rfl⟩
abbrev main_v37 : Ref sig .tc := ⟨.hbm, 84, rfl⟩
abbrev main_c_6 : Ref sig .tc := ⟨.hbm, 85, rfl⟩
abbrev main_call3_cst : Ref sig .tc := ⟨.hbm, 86, rfl⟩
abbrev main_call3_v0 : Ref sig .tc := ⟨.hbm, 87, rfl⟩
abbrev main_call3_v1 : Ref sig .tc := ⟨.hbm, 88, rfl⟩
abbrev main_call3_cst_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_v6 : Ref sig .tc := ⟨.hbm, 94, rfl⟩
abbrev main_call3_v7 : Ref sig .tc := ⟨.hbm, 95, rfl⟩
abbrev main_call3_cst_1 : Ref sig .tc := ⟨.hbm, 96, rfl⟩
abbrev main_call3_v8 : Ref sig .tc := ⟨.hbm, 97, rfl⟩
abbrev main_call3_cst_2 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_v12 : Ref sig .tc := ⟨.hbm, 102, rfl⟩
abbrev main_call3_cst_3 : Ref sig .tc := ⟨.hbm, 103, rfl⟩
abbrev main_call3_v13 : Ref sig .tc := ⟨.hbm, 104, rfl⟩
abbrev main_call3_cst_4 : Ref sig .tc := ⟨.hbm, 105, rfl⟩
abbrev main_call3_call0_v0 : Ref sig .tc := ⟨.hbm, 106, rfl⟩
abbrev main_call3_call0_v1 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_cst_7 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_call4_cst : Ref sig .tc := ⟨.hbm, 123, rfl⟩
abbrev main_call4_v0 : Ref sig .tc := ⟨.hbm, 124, rfl⟩
abbrev main_v52 : Ref sig .tc := ⟨.hbm, 125, rfl⟩
abbrev main_c_8 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_call5_v0 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_cst_9 : Ref sig .tc := ⟨.hbm, 137, rfl⟩
abbrev main_v62 : Ref sig .tc := ⟨.hbm, 138, rfl⟩
abbrev main_v63 : Ref sig .tc := ⟨.hbm, 139, rfl⟩
abbrev main_cst_10 : Ref sig .tc := ⟨.hbm, 140, rfl⟩
abbrev main_v64 : Ref sig .tc := ⟨.hbm, 141, rfl⟩
abbrev main_v65 : Ref sig .tc := ⟨.hbm, 142, rfl⟩
abbrev main_c_11 : Ref sig .tc := ⟨.hbm, 143, rfl⟩
abbrev main_call6_cst : Ref sig .tc := ⟨.hbm, 144, rfl⟩
abbrev main_call6_v0 : Ref sig .tc := ⟨.hbm, 145, rfl⟩
abbrev main_call6_v1 : Ref sig .tc := ⟨.hbm, 146, rfl⟩
abbrev main_call6_cst_0 : Ref sig .tc := ⟨.hbm, 147, rfl⟩
abbrev main_call6_v2 : Ref sig .tc := ⟨.hbm, 148, rfl⟩
abbrev main_call6_v3 : Ref sig .tc := ⟨.hbm, 149, rfl⟩
abbrev main_call6_v4 : Ref sig .tc := ⟨.hbm, 150, rfl⟩
abbrev main_call6_v5 : Ref sig .tc := ⟨.hbm, 151, rfl⟩
abbrev main_call6_v6 : Ref sig .tc := ⟨.hbm, 152, rfl⟩
abbrev main_call6_v7 : Ref sig .tc := ⟨.hbm, 153, rfl⟩
abbrev main_call6_cst_1 : Ref sig .tc := ⟨.hbm, 154, rfl⟩
abbrev main_call6_v8 : Ref sig .tc := ⟨.hbm, 155, rfl⟩
abbrev main_call6_cst_2 : Ref sig .tc := ⟨.hbm, 156, rfl⟩
abbrev main_call6_v9 : Ref sig .tc := ⟨.hbm, 157, rfl⟩
abbrev main_call6_v10 : Ref sig .tc := ⟨.hbm, 158, rfl⟩
abbrev main_call6_v11 : Ref sig .tc := ⟨.hbm, 159, rfl⟩
abbrev main_call6_v12 : Ref sig .tc := ⟨.hbm, 160, rfl⟩
abbrev main_call6_cst_3 : Ref sig .tc := ⟨.hbm, 161, rfl⟩
abbrev main_call6_v13 : Ref sig .tc := ⟨.hbm, 162, rfl⟩
abbrev main_call6_cst_4 : Ref sig .tc := ⟨.hbm, 163, rfl⟩
abbrev main_call6_call0_v0 : Ref sig .tc := ⟨.hbm, 164, rfl⟩
abbrev main_call6_call0_v1 : Ref sig .tc := ⟨.hbm, 165, rfl⟩
abbrev main_v66 : Ref sig .tc := ⟨.hbm, 166, rfl⟩
abbrev main_v67 : Ref sig .tc := ⟨.hbm, 167, rfl⟩
abbrev main_v68 : Ref sig .tc := ⟨.hbm, 168, rfl⟩
abbrev main_cst_12 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_v73 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_v77 : Ref sig .tc := ⟨.hbm, 178, rfl⟩
abbrev main_v78 : Ref sig .tc := ⟨.hbm, 179, rfl⟩
abbrev main_v79 : Ref sig .tc := ⟨.hbm, 180, rfl⟩
abbrev main_call7_cst : Ref sig .tc := ⟨.hbm, 181, rfl⟩
abbrev main_call7_v0 : Ref sig .tc := ⟨.hbm, 182, rfl⟩
abbrev main_v80 : Ref sig .tc := ⟨.hbm, 183, rfl⟩
abbrev main_c_13 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_call8_v0 : Ref sig .tc := ⟨.hbm, 188, rfl⟩
abbrev main_v84 : Ref sig .tc := ⟨.hbm, 189, rfl⟩

abbrev nD : Nat := 1
abbrev τ : Topo := Topo.v7x

variable {F : FTy → Type} [FloatOps F]
-- ==== Proof.LayerNorm.lean ====
module

public import Idealize.ShloMosaic.Lib.Pointwise
public import Idealize.ShloMosaic.Lib.IdealHost

@[expose] public section

/-! The layer norm of one row of 512 extended reals, as the kernel and as the reference compute it, and that the two
agree on a row of real numbers: the mean of the squares less the square of the mean is the mean of the squared
deviations, and multiplying by a reciprocal root is dividing by the root. -/

noncomputable section

namespace Cert.Encoder

open Idealize.ShloMosaic

/-- The row's normalized and clipped entry `j` as the kernel computes it, from the sum and the sum of squares. -/
def kerNorm (h : Fin 512 → EReal) (j : Fin 512) : EReal :=
  max ((h j - (∑ x, h x) * Ideal.ofBits .f32 0x3B000000#32)
    * Ideal.rsqrt ((∑ x, h x * h x) * Ideal.ofBits .f32 0x3B000000#32
        - (∑ x, h x) * Ideal.ofBits .f32 0x3B000000#32 * ((∑ x, h x) * Ideal.ofBits .f32 0x3B000000#32)
      + Ideal.ofBits .f32 0x3727C5AC#32)) 0

/-- The row's mean as the reference computes it. -/
def refMean (h : Fin 512 → EReal) : EReal := Ideal.div (∑ x, h x) (Ideal.ofBits .f32 0x44000000#32)

/-- The row's variance as the reference computes it. -/
def refVar (h : Fin 512 → EReal) : EReal :=
  if 0 < Ideal.ofBits .f32 0x44000000#32 - FloatOps.sitofp (F := Ideal) .f32 0#32 then
    Ideal.div (∑ x, (h x - refMean h) * (h x - refMean h)) (Ideal.ofBits .f32 0x44000000#32 - FloatOps.sitofp (F := Ideal) .f32 0#32)
  else Ideal.ofBits .f32 0x7FC00000#32

/-- The row's normalized, scaled, shifted and clipped entry `j` as the reference computes it. -/
def refNorm (h : Fin 512 → EReal) (g be : EReal) (j : Fin 512) : EReal :=
  max (Ideal.div (h j - refMean h) (Ideal.sqrt (refVar h + Ideal.ofBits .f32 0x3727C5AC#32)) * g + be) 0

/-- The kernel's factor is one over 512. -/
theorem factor_val : Ideal.ofBits .f32 0x3B000000#32 = (((1 : ℝ) / 512 : ℝ) : EReal) := by
  simp [Ideal.ofBits, Ideal.ieee, -EReal.coe_mul]; norm_num

/-- The reference's divisor is 512. -/
theorem width_val : Ideal.ofBits .f32 0x44000000#32 = ((512 : ℝ) : EReal) := by
  simp [Ideal.ofBits, Ideal.ieee, -EReal.coe_mul]; norm_num

/-- The constant added to the variance is a positive real. -/
theorem eps_val : ∃ e : ℝ, 0 < e ∧ Ideal.ofBits .f32 0x3727C5AC#32 = (e : EReal) := by
  refine ⟨(2 ^ 23 + 2606508) * 2 ^ (-40 : ℤ), by positivity, ?_⟩
  simp [Ideal.ofBits, Ideal.ieee, -EReal.coe_mul]; norm_num

/-- Zero degrees of freedom taken off leave the divisor 512. -/
theorem dof_val : Ideal.ofBits .f32 0x44000000#32 - FloatOps.sitofp (F := Ideal) .f32 0#32 = ((512 : ℝ) : EReal) := by
  rw [width_val]
  show ((512 : ℝ) : EReal) - (((0#32 : BitVec 32).toInt : ℝ) : EReal) = _
  norm_num

/-- A finite sum of reals is the same taken in the extended reals. -/
theorem sum_real {ι : Type} [Fintype ι] (f : ι → ℝ) : (∑ k, (f k : EReal)) = ((∑ k, f k : ℝ) : EReal) :=
  (map_sum (⟨⟨Real.toEReal, EReal.coe_zero⟩, EReal.coe_add⟩ : ℝ →+ EReal) f Finset.univ).symm

/-- The mean of the squared deviations is the mean of the squares less the square of the mean. -/
theorem variance (r : Fin 512 → ℝ) :
    (∑ k, (r k - (∑ x, r x) * (1 / 512)) * (r k - (∑ x, r x) * (1 / 512))) * (1 / 512)
      = (∑ k, r k * r k) * (1 / 512) - (∑ x, r x) * (1 / 512) * ((∑ x, r x) * (1 / 512)) := by
  generalize hm : (∑ x, r x) * (1 / 512 : ℝ) = μ
  have hs : ∑ x, r x = 512 * μ := by rw [← hm]; ring
  have : ∀ k, (r k - μ) * (r k - μ) = r k * r k - 2 * μ * r k + μ * μ := fun k => by ring
  simp only [this, Finset.sum_add_distrib, Finset.sum_sub_distrib, ← Finset.mul_sum, hs, Finset.sum_const, Finset.card_univ,
    Fintype.card_fin, nsmul_eq_mul]
  norm_num
  ring

/-- The mean of squares less the squared mean is not negative. -/
theorem variance_nonneg (r : Fin 512 → ℝ) :
    0 ≤ (∑ k, r k * r k) * (1 / 512) - (∑ x, r x) * (1 / 512) * ((∑ x, r x) * (1 / 512)) := by
  rw [← variance]
  exact mul_nonneg (Finset.sum_nonneg fun k _ => mul_self_nonneg _) (by norm_num)

/-- On a row of reals the kernel's layer norm is the reference's with gain one and shift zero. -/
theorem norm_eq (r : Fin 512 → ℝ) (j : Fin 512) :
    kerNorm (fun k => (r k : EReal)) j = refNorm (fun k => (r k : EReal)) 1 0 j := by
  obtain ⟨e, he, hE⟩ := eps_val
  have hmean : refMean (fun k => (r k : EReal)) = (((∑ x, r x) * (1 / 512) : ℝ) : EReal) := by
    rw [refMean, width_val, Ideal.div_coe (by norm_num), sum_real, ← EReal.coe_mul]
  have hvar : refVar (fun k => (r k : EReal))
      = (((∑ k, r k * r k) * (1 / 512) - (∑ x, r x) * (1 / 512) * ((∑ x, r x) * (1 / 512)) : ℝ) : EReal) := by
    rw [refVar, hmean, dof_val, if_pos (by exact_mod_cast (by norm_num : (0 : ℝ) < 512)), Ideal.div_coe (by norm_num), ← variance]
    simp only [← EReal.coe_sub, ← EReal.coe_mul, sum_real]
  have hv := variance_nonneg r
  rw [refNorm, hmean, hvar, kerNorm, factor_val, hE]
  simp only [← EReal.coe_mul, sum_real, ← EReal.coe_sub, ← EReal.coe_add]
  generalize (∑ k, r k * r k) * (1 / 512) - (∑ x, r x) * (1 / 512) * ((∑ x, r x) * (1 / 512)) = v at hv
  have hpos : 0 < v + e := by linarith
  rw [Ideal.rsqrt_coe, if_neg (by linarith), if_neg hpos.ne', Ideal.sqrt_coe, if_neg (by linarith),
    Ideal.div_coe (Real.sqrt_pos.2 hpos).ne', mul_one, add_zero, one_div (Real.sqrt (v + e))]

end Cert.Encoder

end
-- ==== Proof.Block.lean ====
module

public import proofs.«01_k».proof.Proof.Gen.KernelIdeal.Value
public import proofs.«01_k».proof.Proof.LayerNorm
public import Idealize.ShloMosaic.Lib.Pipeline.ValueKit

@[expose] public section

set_option maxRecDepth 16384

/-! What one block of the kernel computes, at an index: the row's masked product against the three stacked weight
matrices, the selected bias, and the layer norm of their sum. -/

noncomputable section

namespace Cert.KernelIdeal.Encoder

open Cert.KernelIdeal Cert.KernelIdeal.Gen Cert.Encoder Idealize.ShloMosaic Idealize.ShloMosaic.TcCoe Idealize.SL.Sem

/-- Row `x` of type `t` against one column `w` of the stacked weights: the 512 entries belonging to each type are
multiplied in only where `t` is that type. -/
def maskedProduct (x : Fin 512 → EReal) (t : BitVec 32) (w : Fin 1536 → EReal) : EReal :=
  (∑ q : Fin 512, (if t = 0#32 then x q else 0) * w ⟨q, by omega⟩)
    + ((∑ q : Fin 512, (if t = 1#32 then x q else 0) * w ⟨512 + q, by omega⟩)
      + ∑ q : Fin 512, (if t = 2#32 then x q else 0) * w ⟨1024 + q, by omega⟩)

/-- The bias of type `t` out of three: the first is also taken where `t` is neither 1 nor 2. -/
def pick {α : Type} (t : BitVec 32) (a0 a1 a2 : α) : α := if t = 2#32 then a2 else if t = 1#32 then a1 else a0

/-- A select on the equality of two words. -/
theorem select_eq {α : Type} {n : ℕ} (t k : BitVec n) (a b : α) :
    Scalar.select (IntOp.cmpi .eq t k) a b = if t = k then a else b := by
  rw [WordCmp.cmpi_eq_eq, WordCmp.select_ofBool]
  simp only [decide_eq_true_eq]

/-- A sum over 1536 indices is the sum of its three runs of 512. -/
theorem sum_thirds (f : Fin 1536 → EReal) :
    ∑ k, f k = (∑ q : Fin 512, f ⟨q, by omega⟩)
      + ((∑ q : Fin 512, f ⟨512 + q, by omega⟩) + ∑ q : Fin 512, f ⟨1024 + q, by omega⟩) := by
  refine (Fin.sum_univ_add (a := 512) (b := 1024) f).trans (congrArg₂ _ rfl ?_)
  refine (Fin.sum_univ_add (a := 512) (b := 512) fun i : Fin (512 + 512) => f (Fin.natAdd 512 i)).trans (congrArg₂ _ rfl ?_)
  exact Finset.sum_congr rfl fun q _ => congrArg f (Fin.ext (by simp [Fin.natAdd]; omega))

/-- The block's matrix product at an index. -/
theorem product_at (x : FVec Ideal S2000x512 .f32) (t : IVec S2000x1 32) (w : FVec Ideal S1536x512 .bf16) (r : Fin 2000) (j : Fin 512) :
    k0_pay3 (F := Ideal) x t w (ix2 r j)
      = maskedProduct (fun q => x (ix2 r q)) (t (ix2 r 0)) fun q => w (ix2 q j) := by
  pointwise [k0_pay3, k0_pay2]
  rw [sum_thirds]
  simp only [select_eq]
  refine congrArg₂ _ (Finset.sum_congr rfl fun q _ => ?_) (congrArg₂ _ (Finset.sum_congr rfl fun q _ => ?_) (Finset.sum_congr rfl fun q _ => ?_))
  · rw [dif_pos q.isLt]
  · rw [dif_neg (by simp), dif_pos (by simp)]
    simp only [Nat.add_sub_cancel_left]
  · rw [dif_neg (by simp; omega), dif_neg (by simp; omega)]
    simp only [show 1024 + (q : ℕ) - 512 - 512 = q by omega]

/-- The block's bias at an index, before the layer norm's first step adds it. -/
theorem bias_at (t : IVec S2000x1 32) (b0 b1 b2 : FVec Ideal S1x1x512 .f32) (r : Fin 2000) (j : Fin 512) :
    Scalar.select (k0_pay5 (F := Ideal) t (ix2 r 0)) (b2 (ix3 0 0 j)) (k0_pay4 (F := Ideal) t b1 b0 (ix2 r j))
      = pick (t (ix2 r 0)) (b0 (ix3 0 0 j)) (b1 (ix3 0 0 j)) (b2 (ix3 0 0 j)) := by
  pointwise [k0_pay5, k0_pay4, k0_pay2]
  simp only [select_eq, pick]

/-- The last payload at an index: the layer norm of the product plus the selected bias. -/
theorem norm_at (h bias : FVec Ideal S2000x512 .f32) (q : IVec S2000x1 1) (b2 : FVec Ideal S1x1x512 .f32) (r : Fin 2000) (j : Fin 512) :
    k0_pay1 (F := Ideal) h bias q b2 (ix2 r j)
      = kerNorm (fun k => h (ix2 r k) + Scalar.select (q (ix2 r 0)) (b2 (ix3 0 0 k)) (bias (ix2 r k))) j := by
  pointwise [k0_pay1]
  rfl

/-- One row of the linear map as the kernel computes it: `x` is the row, `t` its type, `w` the columns of the stacked
weights, `b0`, `b1`, `b2` the three biases. -/
def kerRow (x : Fin 512 → EReal) (t : BitVec 32) (w : Fin 1536 → Fin 512 → EReal) (b0 b1 b2 : Fin 512 → EReal) (k : Fin 512) : EReal :=
  maskedProduct x t (fun q => w q k) + pick t (b0 k) (b1 k) (b2 k)

/-- What the body leaves in the output's buffer, at an index, from the four input blocks. -/
theorem block_at (t : IVec S2000x1 32) (x : FVec Ideal S2000x512 .f32) (w : FVec Ideal S1536x512 .bf16) (b : FVec Ideal S3x1x512 .f32)
    (r : Fin 2000) (j : Fin 512) :
    out0_4 (F := Ideal) t x w b (ix2 r j)
      = kerNorm (kerRow (fun q => x (ix2 r q)) (t (ix2 r 0)) (fun q k => w (ix2 q k))
          (fun k => b (ix3 0 0 k)) (fun k => b (ix3 1 0 k)) (fun k => b (ix3 2 0 k))) j := by
  frame_out
  rw [norm_at]
  refine congrArg (kerNorm · j) (funext fun k => ?_)
  rw [product_at, bias_at, kerRow]
  pointwise

end Cert.KernelIdeal.Encoder

end
-- ==== Proof.Entry.lean ====
module

public import proofs.«01_k».proof.Proof.Gen.KernelIdeal.Value
public import Idealize.ShloMosaic.Lib.Pipeline.ValueKit

@[expose] public section

set_option maxRecDepth 16384

/-! What the host operations before the kernel's launch leave in its operands: the three transposed weight matrices
stacked, the three biases stacked, the types as a column. -/

noncomputable section

namespace Cert.KernelIdeal.Encoder

open Cert.KernelIdeal Cert.KernelIdeal.Gen Idealize.ShloMosaic Idealize.ShloMosaic.TcCoe Idealize.SL.Sem

/-- Three square matrices stacked, at the product's format. -/
def stackMats (A B C : FVec Ideal S512x512 .f32) : FVec Ideal S1536x512 .bf16 :=
  truncf .bf16 (concatenate S1536x512 0 [⟨S512x512, A⟩, ⟨S512x512, B⟩, ⟨S512x512, C⟩]
    concatenates_S512x512_S512x512_S512x512_S1536x512_d0) bitsLt_bf16_f32

/-- The transpose of a square matrix. -/
def flip (A : FVec Ideal S512x512 .f32) : FVec Ideal S512x512 .f32 := transpose S512x512 [1, 0] A transposes_S512x512_S512x512_1_0

/-- Three rows stacked, each under a unit axis. -/
def stackRows (a b c : FVec Ideal S1x512 .f32) : FVec Ideal S3x1x512 .f32 :=
  shapeCast S3x1x512 (concatenate S3x512 0 [⟨S1x512, a⟩, ⟨S1x512, b⟩, ⟨S1x512, c⟩]
    concatenates_S1x512_S1x512_S1x512_S3x512_d0) shapeCasts_S3x512_S3x1x512

/-- A vector as a row. -/
def asRow (a : FVec Ideal S512 .f32) : FVec Ideal S1x512 .f32 := broadcastInDim S1x512 ![1] bcast_S512_S1x512_1 a

/-- A vector of words as a column. -/
def asColumn (t : IVec S100000 32) : IVec S100000x1 32 := shapeCast S100000x1 t shapeCasts_S100000_S100000x1

section
variable (m : (ℓ : Loc nD τ sig) → Buf (Elt Ideal) ℓ) (c : Dev nD)

/-- The kernel's weight operand: the three transposed weight matrices stacked. -/
theorem weights_entry : V m c main_v4 = stackMats (flip (m ((c : Thread nD τ).loc main_arg2))) (flip (m ((c : Thread nD τ).loc main_arg6)))
    (flip (m ((c : Thread nD τ).loc main_arg10))) := by
  simp only [V, hostOps0]
  after_results_simp
  simp only [Matrix.cons_val]
  refine (?_ : stackMats _ _ _ = _)
  refine congr (congr (congrArg stackMats ?_) ?_) ?_ <;> (after_results_simp; rfl)

/-- The kernel's bias operand: the three biases stacked. -/
theorem biases_entry : V m c main_v9 = stackRows (asRow (m ((c : Thread nD τ).loc main_arg3))) (asRow (m ((c : Thread nD τ).loc main_arg7)))
    (asRow (m ((c : Thread nD τ).loc main_arg11))) := by
  simp only [V, hostOps0]
  after_results_simp
  simp only [Matrix.cons_val]
  refine congr (congr (congrArg stackRows ?_) ?_) ?_ <;> (after_results_simp; rfl)

/-- The kernel's type operand: the node types as a column. -/
theorem types_entry : V m c main_v10 = asColumn (m ((c : Thread nD τ).loc main_arg1)) := by
  simp only [V, hostOps0]
  after_results_simp
  rfl

end

/-- The types' column at an index. -/
theorem asColumn_at (t : IVec S100000 32) (n : Fin 100000) : asColumn t (ix2 n 0) = t (ix1 n) := by
  pointwise [asColumn]

/-- The stacked weights at an index of the first matrix. -/
theorem stackMats_at (A B C : FVec Ideal S512x512 .f32) (q k : Fin 512) :
    stackMats (flip A) (flip B) (flip C) (ix2 ⟨q, by omega⟩ k) = A (ix2 k q)
      ∧ stackMats (flip A) (flip B) (flip C) (ix2 ⟨512 + q, by omega⟩ k) = B (ix2 k q)
      ∧ stackMats (flip A) (flip B) (flip C) (ix2 ⟨1024 + q, by omega⟩ k) = C (ix2 k q) := by
  refine ⟨?_, ?_, ?_⟩ <;> pointwise [stackMats, flip]
  rw [dif_neg (by omega), dif_neg (by omega)]
  simp only [show 1024 + (q : ℕ) - 512 - 512 = q by omega]

/-- The stacked biases at an index. -/
theorem stackRows_at (a b c : FVec Ideal S512 .f32) (k : Fin 512) :
    stackRows (asRow a) (asRow b) (asRow c) (ix3 0 0 k) = a (ix1 k)
      ∧ stackRows (asRow a) (asRow b) (asRow c) (ix3 1 0 k) = b (ix1 k)
      ∧ stackRows (asRow a) (asRow b) (asRow c) (ix3 2 0 k) = c (ix1 k) := by
  refine ⟨?_, ?_, ?_⟩ <;> pointwise [stackRows, asRow]

end Cert.KernelIdeal.Encoder

end
-- ==== Proof.Array.lean ====
module

public import proofs.«01_k».proof.Proof.Block
public import proofs.«01_k».proof.Proof.Entry

@[expose] public section

set_option maxRecDepth 16384

/-! What the result array holds after the kernel's run: at each node and lane, the layer norm of the node's row of the
linear map of its type. -/

noncomputable section

namespace Cert.KernelIdeal.Encoder

open Cert.KernelIdeal Cert.KernelIdeal.Gen Cert.Encoder Idealize.ShloMosaic Idealize.ShloMosaic.TcCoe Idealize.SL.Sem
open Idealize.ShloMosaic.Pipeline (Dat)

/-- The result array, from the types' column, the nodes, the stacked weights and the stacked biases. -/
def kerOut (t : IVec S100000x1 32) (x : FVec Ideal S100000x512 .f32) (w : FVec Ideal S1536x512 .bf16) (b : FVec Ideal S3x1x512 .f32) :
    FVec Ideal S100000x512 .f32 := fun i =>
  kerNorm (kerRow (fun q => x (ix2 (i 0) q)) (t (ix2 (i 0) 0)) (fun q k => w (ix2 q k))
    (fun k => b (ix3 0 0 k)) (fun k => b (ix3 1 0 k)) (fun k => b (ix3 2 0 k))) (i 1)

/-- Where each window's block stands: block `t` of the rows for the types, the nodes and the result, the whole array for
the weights and the biases. -/
theorem block_index : ∀ t : Fin cfg0.N, win0_0.index t = ![t.val, 0] ∧ win0_1.index t = ![t.val, 0] ∧ win0_2.index t = ![0, 0]
    ∧ win0_3.index t = ![0, 0, 0] ∧ win0_4.index t = ![t.val, 0] :=
  (by decide +kernel : ∀ t : Fin grid0.N, _)

variable (m : (ℓ : Loc nD τ sig) → Buf (Elt Ideal) ℓ) (c : Dev nD)

/-- What the body leaves in the output's buffer at point `t` is the result array read through that point's block. -/
theorem point (t : Fin cfg0.N) (y : S2000x512.Idx) :
    out0_4 (F := Ideal) (iblk m c 0 t) (iblk m c 1 t) (iblk m c 2 t) (iblk m c 3 t) y
      = kerOut (V m c main_v10) (V m c main_arg0) (V m c main_v4) (V m c main_v9) (((cfg0.win 4).blk t).view.emb y) := by
  idx_vars y
  have hx : ∀ q : Fin 512, iblk m c 1 t (ix2 y0 q) = V m c main_arg0 (ix2 (((cfg0.win 4).blk t).view.emb (ix2 y0 y1) 0) q) :=
    fun q => by blk_ext [iblk, block_index t]
  have ht : iblk m c 0 t (ix2 y0 0) = V m c main_v10 (ix2 (((cfg0.win 4).blk t).view.emb (ix2 y0 y1) 0) 0) := by
    blk_ext [iblk, block_index t]
  have hw : ∀ (q : Fin 1536) (k : Fin 512), iblk m c 2 t (ix2 q k) = V m c main_v4 (ix2 q k) :=
    fun q k => by blk_ext [iblk, block_index t]
  have hb : ∀ (s : Fin 3) (k : Fin 512), iblk m c 3 t (ix3 s 0 k) = V m c main_v9 (ix3 s 0 k) :=
    fun s k => by blk_ext [iblk, block_index t]
  have hj : ((cfg0.win 4).blk t).view.emb (ix2 y0 y1) 1 = y1 := Fin.ext (by blk_simp [block_index t])
  rw [block_at, kerOut, hj, funext hx, ht, funext fun q => funext (hw q), funext (hb 0), funext (hb 1), funext (hb 2)]

/-- The result array after the run. -/
theorem final : (dats m 0 c).arrAt 4 cfg0.N
    = kerOut (V m c main_v10) (V m c main_arg0) (V m c main_v4) (V m c main_v9) := by
  refine (dats m 0 c).arrAt_eq_of_covers 4 _ (by decide +kernel) fun t _ y => ?_
  blk_simp
  rw [after0_4]
  exact point m c t y

end Cert.KernelIdeal.Encoder

end
-- ==== Proof.Reference.lean ====
module

public import proofs.«01_k».proof.Proof.Gen.ReferenceIdeal.Run
public import proofs.«01_k».proof.Proof.LayerNorm
public import Idealize.ShloMosaic.Lib.WordCmp

@[expose] public section

set_option maxRecDepth 16384

/-! What the reference computes: one layer of it as an array, and that array at an index. -/

noncomputable section

namespace Cert.ReferenceIdeal.Encoder

open Cert.ReferenceIdeal Cert.ReferenceIdeal.Gen Cert.Encoder Idealize.ShloMosaic Idealize.ShloMosaic.TcCoe Idealize.SL.Sem

/-- The linear map of one type on all nodes: `x @ W.T + b`. -/
def lin (x : FVec Ideal S100000x512 .f32) (W : FVec Ideal S512x512 .f32) (b : FVec Ideal S512 .f32) : FVec Ideal S100000x512 .f32 :=
  addf (Host.dotGeneral dot_S100000x512_S512x512_S100000x512_1_0_0_1_n_n none x (transpose S512x512 [1, 0] W transposes_S512x512_S512x512_1_0))
    (broadcastInDim S100000x512 ![0, 1] bcast_S1x512_S100000x512_0_1 (broadcastInDim S1x512 ![1] bcast_S512_S1x512_1 b))

/-- The mean of every row, as a column. -/
def rowMean (h : FVec Ideal S100000x512 .f32) : FVec Ideal S100000x1 .f32 :=
  Host.divf (broadcastInDim S100000x1 ![0] bcast_S100000_S100000x1_0 (Host.reduceAdd h (constant S_ .f32 0x00000000#32) reducesTo_S100000x512_S100000_d1 h_S_))
    (broadcastInDim S100000x1 ![] bcast_S_S100000x1 (constant S_ .f32 0x44000000#32))

/-- Every row less its mean. -/
def centred (h : FVec Ideal S100000x512 .f32) : FVec Ideal S100000x512 .f32 :=
  subf h (broadcastInDim S100000x512 ![0, 1] bcast_S100000x1_S100000x512_0_1 (rowMean h))

/-- The variance of every row, as a column: the mean of the squares of the centred row. -/
def rowVar (h : FVec Ideal S100000x512 .f32) : FVec Ideal S100000x1 .f32 :=
  select (broadcastInDim S100000x1 ![] bcast_S_S100000x1 (cmpf .ogt (subf (constant S_ .f32 0x44000000#32) (sitofp .f32 (constantI S_ 32 0#32)) : FVec Ideal S_ .f32) (constant S_ .f32 0x00000000#32)))
    (Host.divf (broadcastInDim S100000x1 ![0] bcast_S100000_S100000x1_0 (Host.reduceAdd (mulf (centred h) (centred h)) (constant S_ .f32 0x00000000#32) reducesTo_S100000x512_S100000_d1 h_S_))
      (broadcastInDim S100000x1 ![] bcast_S_S100000x1 (subf (constant S_ .f32 0x44000000#32) (sitofp .f32 (constantI S_ 32 0#32)))))
    (broadcastInDim S100000x1 ![] bcast_S_S100000x1 (constant S_ .f32 0x7FC00000#32))

/-- The encoder of one type on all nodes: the linear map, the layer norm with gain and shift, the relu. -/
def layer (h : FVec Ideal S100000x512 .f32) (g be : FVec Ideal S512 .f32) : FVec Ideal S100000x512 .f32 :=
  maximumf (addf (mulf (Host.divf (centred h)
      (broadcastInDim S100000x512 ![0, 1] bcast_S100000x1_S100000x512_0_1 (Host.sqrt (addf (rowVar h) (broadcastInDim S100000x1 ![] bcast_S_S100000x1 (constant S_ .f32 0x3727C5AC#32))))))
    (broadcastInDim S100000x512 ![0, 1] bcast_S1x512_S100000x512_0_1 (broadcastInDim S1x512 ![1] bcast_S512_S1x512_1 g)))
    (broadcastInDim S100000x512 ![0, 1] bcast_S1x512_S100000x512_0_1 (broadcastInDim S1x512 ![1] bcast_S512_S1x512_1 be)))
    (broadcastInDim S100000x512 ![] bcast_S_S100000x512 (constant S_ .f32 0x00000000#32))

/-- The rows of type `k` are taken from `y`, the others from `z`. -/
def choose (t : IVec S100000 32) (k : BitVec 32) (y z : FVec Ideal S100000x512 .f32) : FVec Ideal S100000x512 .f32 :=
  select (broadcastInDim S100000x512 ![0, 1] bcast_S100000x1_S100000x512_0_1 (broadcastInDim S100000x1 ![0] bcast_S100000_S100000x1_0 (cmpi .eq t (broadcastInDim S100000 ![] bcast_S_S100000 (constantI S_ 32 k))))) y z

/-- The reference's result: the encoder of each type chosen at that type's rows, zero elsewhere. -/
theorem res_eq (m : (ℓ : Loc nD τ sig) → Buf (Elt Ideal) ℓ) (c : Dev nD) :
    Value.res_out0 m c
      = choose (m ((c.tc : Thread nD τ).loc main_arg1)) 2#32 (layer (lin (m ((c.tc : Thread nD τ).loc main_arg0)) (m ((c.tc : Thread nD τ).loc main_arg10)) (m ((c.tc : Thread nD τ).loc main_arg11))) (m ((c.tc : Thread nD τ).loc main_arg12)) (m ((c.tc : Thread nD τ).loc main_arg13)))
        (choose (m ((c.tc : Thread nD τ).loc main_arg1)) 1#32 (layer (lin (m ((c.tc : Thread nD τ).loc main_arg0)) (m ((c.tc : Thread nD τ).loc main_arg6)) (m ((c.tc : Thread nD τ).loc main_arg7))) (m ((c.tc : Thread nD τ).loc main_arg8)) (m ((c.tc : Thread nD τ).loc main_arg9)))
          (choose (m ((c.tc : Thread nD τ).loc main_arg1)) 0#32 (layer (lin (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)))
            (broadcastInDim S100000x512 ![] bcast_S_S100000x512 (constant S_ .f32 0x00000000#32)))) := by
  show Value.res_main_v84 m c = _
  unfold Value.res_main_v84
  rfl

/-- The linear map at an index. -/
theorem lin_at (x : FVec Ideal S100000x512 .f32) (W : FVec Ideal S512x512 .f32) (b : FVec Ideal S512 .f32) (n : Fin 100000) (j : Fin 512) :
    lin x W b (ix2 n j) = ∑ q, x (ix2 n q) * W (ix2 j q) + b (ix1 j) := by
  pointwise [lin]

/-- The encoder of one type at an index: the layer norm of the node's row. -/
theorem layer_at (h : FVec Ideal S100000x512 .f32) (g be : FVec Ideal S512 .f32) (n : Fin 100000) (j : Fin 512) :
    layer h g be (ix2 n j) = refNorm (fun k => h (ix2 n k)) (g (ix1 j)) (be (ix1 j)) j := by
  pointwise [layer, centred, rowVar, rowMean]
  rfl

/-- The choice of a type's rows at an index. -/
theorem choose_at (t : IVec S100000 32) (k : BitVec 32) (y z : FVec Ideal S100000x512 .f32) (n : Fin 100000) (j : Fin 512) :
    choose t k y z (ix2 n j) = if t (ix1 n) = k then y (ix2 n j) else z (ix2 n j) := by
  pointwise [choose]
  rw [WordCmp.cmpi_eq_eq, WordCmp.select_ofBool]
  simp only [decide_eq_true_eq]

end Cert.ReferenceIdeal.Encoder

end
-- ==== Proof.Pre.lean ====
module

public import proofs.«01_k».proof.Proof.Gen.Pre_drawn
public import proofs.«01_k».proof.Pre_drawn
public import Idealize.ShloMosaic.Lib.ReduceAll
public import Idealize.ShloMosaic.Lib.Pointwise
public import Idealize.ShloMosaic.Lib.IdealHost

@[expose] public section

set_option maxRecDepth 16384

/-! What the precondition says of the arguments, element by element: the nodes, weights and biases are real numbers,
the types are 0, 1 or 2, the gains are one and the shifts zero. -/

noncomputable section

namespace Cert.Pre_drawn.Read

open Cert.Pre_drawn Cert.Pre_drawn.Gen Idealize.ShloMosaic

/-- The bit pattern of the bound is the largest extended real. -/
theorem bound_val : Ideal.ofBits .f32 0x7F800000#32 = ⊤ := by
  simp [Ideal.ofBits, Ideal.ieee]

/-- A truth value made of a decision is 1 only where the decision holds. -/
theorem of_decide {p : Prop} [Decidable p] (h : BitVec.ofBool (decide p) = 1#1) : p := by
  by_contra hn
  rw [decide_eq_false hn] at h
  exact absurd h (by decide)

/-- An extended real whose absolute value is below the largest one is a real. -/
theorem real_of_abs_lt {x : EReal} (h : max x (-x) < ⊤) : ∃ r : ℝ, x = (r : EReal) := by
  induction x with
  | bot => exact absurd h (by simp)
  | top => exact absurd h (by simp)
  | coe r => exact ⟨r, rfl⟩

instance : Subsingleton S_.Idx := ⟨fun _ _ => funext fun k => k.elim0⟩

section
variable {s : Shape} {axes : List (Fin s.rank)} (hb : S_.BroadcastsInDim s (![] : Fin 0 → Fin s.rank))
  (hr : s.ReducesTo axes S_) (hu : 0 < S_.numel) (init : IVec S_ 1) (j : S_.Idx)

/-- `jnp.all(jnp.abs(v) < jnp.inf)` read at an element. -/
theorem all_bounded (v : FVec Ideal s .f32)
    (h : Host.reduce IntOp.andi (cmpf .olt (Host.absf v) (broadcastInDim s ![] hb (constant (F := Ideal) S_ .f32 0x7F800000#32))) init hr hu j = 1#1)
    (i : s.Idx) : ∃ r : ℝ, v i = (r : EReal) := by
  have hi := Host.reduce_andi_all _ _ hr hu j h i
  have hi' : max (v i) (-(v i)) < Ideal.ofBits .f32 0x7F800000#32 := of_decide hi
  exact real_of_abs_lt (bound_val ▸ hi')

/-- `jnp.all(v == k)` read at an element. -/
theorem all_equal (v : FVec Ideal s .f32) (k : BitVec 32)
    (h : Host.reduce IntOp.andi (cmpf .oeq v (broadcastInDim s ![] hb (constant (F := Ideal) S_ .f32 k))) init hr hu j = 1#1)
    (i : s.Idx) : v i = Ideal.ofBits .f32 k :=
  of_decide (Host.reduce_andi_all _ _ hr hu j h i : BitVec.ofBool (decide (v i = Ideal.ofBits .f32 k)) = 1#1)

/-- `jnp.all((0 <= t) & (t < 3))` read at an element. -/
theorem all_types (t : IVec s 32)
    (h : Host.reduce IntOp.andi (andi (cmpi .sge t (broadcastInDim s ![] hb (constantI S_ 32 0#32)))
      (cmpi .slt t (broadcastInDim s ![] hb (constantI S_ 32 3#32)))) init hr hu j = 1#1)
    (i : s.Idx) : t i = 0#32 ∨ t i = 1#32 ∨ t i = 2#32 := by
  have hi := Host.reduce_andi_all _ _ hr hu j h i
  obtain ⟨h0, h3⟩ : IntOp.cmpi .sge (t i) 0#32 = 1#1 ∧ IntOp.cmpi .slt (t i) 3#32 = 1#1 := IntOp.andi_eq_one.1 hi
  rw [IntOp.cmpi_sge] at h0
  rw [IntOp.cmpi_slt] at h3
  rw [show (0#32 : BitVec 32).toInt = 0 from rfl] at h0
  rw [show (3#32 : BitVec 32).toInt = 3 from rfl] at h3
  have : (t i).toInt = 0 ∨ (t i).toInt = 1 ∨ (t i).toInt = 2 := by omega
  exact this.imp BitVec.eq_of_toInt_eq (Or.imp BitVec.eq_of_toInt_eq BitVec.eq_of_toInt_eq)

end

/-- What the precondition asks of one type's weights, bias, gain and shift. -/
structure LayerOk (W : FVec Ideal S512x512 .f32) (b g be : FVec Ideal S512 .f32) : Prop where
  /-- the weights are real -/
  weights : ∀ i, ∃ r : ℝ, W i = (r : EReal)
  /-- the bias is real -/
  bias : ∀ i, ∃ r : ℝ, b i = (r : EReal)
  /-- the gain is one -/
  gain : ∀ i, g i = (1 : EReal)
  /-- the shift is zero -/
  shift : ∀ i, be i = (0 : EReal)

/-- One type's clauses of the precondition, behind the clauses before them. -/
theorem layer_of (W : FVec Ideal S512x512 .f32) (b g be : FVec Ideal S512 .f32) (p : IVec S_ 1) (i1 i2 i3 i4 : IVec S_ 1) (j : S_.Idx)
    (h : andi (andi (andi (andi p
        (Host.reduce IntOp.andi (cmpf .olt (Host.absf W) (broadcastInDim S512x512 ![] Facts.bcast_S_S512x512 (constant S_ .f32 0x7F800000#32))) i1 Facts.reducesTo_S512x512_S_d0_1 Facts.h_S_))
        (Host.reduce IntOp.andi (cmpf .olt (Host.absf b) (broadcastInDim S512 ![] Facts.bcast_S_S512 (constant S_ .f32 0x7F800000#32))) i2 Facts.reducesTo_S512_S_d0 Facts.h_S_))
        (Host.reduce IntOp.andi (cmpf .oeq g (broadcastInDim S512 ![] Facts.bcast_S_S512 (constant S_ .f32 0x3F800000#32))) i3 Facts.reducesTo_S512_S_d0 Facts.h_S_))
        (Host.reduce IntOp.andi (cmpf .oeq be (broadcastInDim S512 ![] Facts.bcast_S_S512 (constant S_ .f32 0x00000000#32))) i4 Facts.reducesTo_S512_S_d0 Facts.h_S_) j = 1#1) :
    p j = 1#1 ∧ LayerOk W b g be := by
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  exact ⟨h, all_bounded _ _ _ _ j W h1, all_bounded _ _ _ _ j b h2,
    fun i => (all_equal _ _ _ _ j g _ h3 i).trans Ideal.ofBits_one_f32, fun i => (all_equal _ _ _ _ j be _ h4 i).trans Ideal.ofBits_zero_f32⟩

/-- What the precondition says of the arguments. -/
theorem read (x : FVec Ideal S100000x512 .f32) (t : IVec S100000 32)
    (W0 : FVec Ideal S512x512 .f32) (b0 g0 be0 : FVec Ideal S512 .f32) (W1 : FVec Ideal S512x512 .f32) (b1 g1 be1 : FVec Ideal S512 .f32)
    (W2 : FVec Ideal S512x512 .f32) (b2 g2 be2 : FVec Ideal S512 .f32)
    (h : fn (F := Ideal) x t W0 b0 g0 be0 W1 b1 g1 be1 W2 b2 g2 be2 = fun _ => 1#1) :
    (∀ i, ∃ r : ℝ, x i = (r : EReal)) ∧ (∀ i, t i = 0#32 ∨ t i = 1#32 ∨ t i = 2#32)
      ∧ LayerOk W0 b0 g0 be0 ∧ LayerOk W1 b1 g1 be1 ∧ LayerOk W2 b2 g2 be2 := by
  have h := congrFun h (ix0)
  unfold fn fn_part1 fn_part2 fn_part3 at h
  obtain ⟨h, l2⟩ := layer_of W2 b2 g2 be2 _ _ _ _ _ _ h
  obtain ⟨h, l1⟩ := layer_of W1 b1 g1 be1 _ _ _ _ _ _ h
  obtain ⟨h, l0⟩ := layer_of W0 b0 g0 be0 _ _ _ _ _ _ h
  obtain ⟨hx, ht⟩ := IntOp.andi_eq_one.1 h
  exact ⟨all_bounded _ _ _ _ _ x hx, all_types _ _ _ _ _ t ht, l0, l1, l2⟩

end Cert.Pre_drawn.Read

end
-- ==== Proof.Equation.lean ====
module

public import proofs.«01_k».proof.Proof.Array
public import proofs.«01_k».proof.Proof.Reference
public import proofs.«01_k».proof.Proof.Pre

@[expose] public section

set_option maxRecDepth 16384

/-! The equation between the kernel's array and the reference's: where the arguments satisfy the precondition they are
the same at every node and lane. -/

noncomputable section

namespace Cert.Encoder

open Idealize.ShloMosaic Cert.KernelIdeal.Encoder Cert.ReferenceIdeal.Encoder Cert.Pre_drawn.Read
open Cert.ReferenceIdeal (S100000x512 S100000 S512x512 S512)

section
variable (x : Fin 512 → EReal) (w : Fin 1536 → EReal)

/-- The masked product of a row of type 0 is its product with the first run of the weights. -/
theorem maskedProduct_zero : maskedProduct x 0#32 w = ∑ q : Fin 512, x q * w ⟨q, by omega⟩ := by
  simp [maskedProduct]

/-- The masked product of a row of type 1 is its product with the second run of the weights. -/
theorem maskedProduct_one : maskedProduct x 1#32 w = ∑ q : Fin 512, x q * w ⟨512 + q, by omega⟩ := by
  simp [maskedProduct]

/-- The masked product of a row of type 2 is its product with the third run of the weights. -/
theorem maskedProduct_two : maskedProduct x 2#32 w = ∑ q : Fin 512, x q * w ⟨1024 + q, by omega⟩ := by
  simp [maskedProduct]

end

section
variable (x : FVec Ideal S100000x512 .f32) (t : IVec S100000 32) (W0 W1 W2 : FVec Ideal S512x512 .f32) (b0 b1 b2 : FVec Ideal S512 .f32)

/-- Node `n`'s row of the linear map as the kernel computes it, from the arguments. -/
def nodeRow (n : Fin 100000) : Fin 512 → EReal :=
  kerRow (fun q => x (ix2 n q)) (asColumn t (ix2 n 0)) (fun q k => stackMats (flip W0) (flip W1) (flip W2) (ix2 q k))
    (fun k => stackRows (asRow b0) (asRow b1) (asRow b2) (ix3 0 0 k)) (fun k => stackRows (asRow b0) (asRow b1) (asRow b2) (ix3 1 0 k))
    fun k => stackRows (asRow b0) (asRow b1) (asRow b2) (ix3 2 0 k)

/-- A node's row as the kernel computes it is the row of the linear map of the node's type. -/
theorem nodeRow_eq (n : Fin 100000) (h : t (ix1 n) = 0#32 ∨ t (ix1 n) = 1#32 ∨ t (ix1 n) = 2#32) :
    nodeRow x t W0 W1 W2 b0 b1 b2 n
      = pick (t (ix1 n)) (fun k => lin x W0 b0 (ix2 n k)) (fun k => lin x W1 b1 (ix2 n k)) (fun k => lin x W2 b2 (ix2 n k)) := by
  funext k
  have hM := fun q => stackMats_at W0 W1 W2 q k
  obtain ⟨hR0, hR1, hR2⟩ := stackRows_at b0 b1 b2 k
  rw [nodeRow, kerRow, asColumn_at, hR0, hR1, hR2]
  rcases h with h | h | h <;> rw [h]
  · rw [maskedProduct_zero]; simp only [fun q => (hM q).1]; exact (lin_at x W0 b0 n k).symm
  · rw [maskedProduct_one]; simp only [fun q => (hM q).2.1]; exact (lin_at x W1 b1 n k).symm
  · rw [maskedProduct_two]; simp only [fun q => (hM q).2.2]; exact (lin_at x W2 b2 n k).symm

end

/-- The linear map of real arguments is real. -/
theorem lin_real (x : FVec Ideal S100000x512 .f32) (W : FVec Ideal S512x512 .f32) (b : FVec Ideal S512 .f32)
    (hx : ∀ i, ∃ r : ℝ, x i = (r : EReal)) (hW : ∀ i, ∃ r : ℝ, W i = (r : EReal)) (hb : ∀ i, ∃ r : ℝ, b i = (r : EReal)) (n : Fin 100000) :
    ∃ r : Fin 512 → ℝ, (fun k => lin x W b (ix2 n k)) = fun k => (r k : EReal) := by
  choose xr hxr using hx
  choose Wr hWr using hW
  choose br hbr using hb
  refine ⟨fun k => ∑ q, xr (ix2 n q) * Wr (ix2 k q) + br (ix1 k), funext fun k => ?_⟩
  rw [lin_at]
  simp only [hxr, hWr, hbr, ← EReal.coe_mul, sum_real, ← EReal.coe_add]

/-- On a type whose parameters satisfy the precondition the kernel's layer norm of a row is the reference's encoder. -/
theorem layer_eq (x : FVec Ideal S100000x512 .f32) (W : FVec Ideal S512x512 .f32) (b g be : FVec Ideal S512 .f32)
    (hx : ∀ i, ∃ r : ℝ, x i = (r : EReal)) (h : LayerOk W b g be) (n : Fin 100000) (j : Fin 512) :
    kerNorm (fun k => lin x W b (ix2 n k)) j = layer (lin x W b) g be (ix2 n j) := by
  obtain ⟨r, hr⟩ := lin_real x W b hx h.weights h.bias n
  rw [layer_at, hr, h.gain, h.shift, norm_eq]

/-- The kernel's array is the reference's, where the arguments satisfy the precondition. -/
theorem array_eq (x : FVec Ideal S100000x512 .f32) (t : IVec S100000 32)
    (W0 : FVec Ideal S512x512 .f32) (b0 g0 be0 : FVec Ideal S512 .f32) (W1 : FVec Ideal S512x512 .f32) (b1 g1 be1 : FVec Ideal S512 .f32)
    (W2 : FVec Ideal S512x512 .f32) (b2 g2 be2 : FVec Ideal S512 .f32) (z : FVec Ideal S100000x512 .f32)
    (hx : ∀ i, ∃ r : ℝ, x i = (r : EReal)) (ht : ∀ i, t i = 0#32 ∨ t i = 1#32 ∨ t i = 2#32)
    (h0 : LayerOk W0 b0 g0 be0) (h1 : LayerOk W1 b1 g1 be1) (h2 : LayerOk W2 b2 g2 be2) :
    kerOut (asColumn t) x (stackMats (flip W0) (flip W1) (flip W2)) (stackRows (asRow b0) (asRow b1) (asRow b2))
      = choose t 2#32 (layer (lin x W2 b2) g2 be2) (choose t 1#32 (layer (lin x W1 b1) g1 be1) (choose t 0#32 (layer (lin x W0 b0) g0 be0) z)) := by
  funext i
  obtain ⟨n, j, rfl⟩ : ∃ (n : Fin 100000) (j : Fin 512), i = ix2 n j := ⟨i 0, i 1, eq_ix2 i⟩
  rw [choose_at, choose_at, choose_at, ← layer_eq x W0 b0 g0 be0 hx h0, ← layer_eq x W1 b1 g1 be1 hx h1, ← layer_eq x W2 b2 g2 be2 hx h2]
  refine (congrArg (kerNorm · j) (nodeRow_eq x t W0 W1 W2 b0 b1 b2 n (ht _))).trans ?_
  rcases ht (ix1 n) with h | h | h <;> rw [h] <;> simp [pick]

end Cert.Encoder

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_drawn
public import proofs.«01_k».proof.Proof.Equation
public import Idealize.ShloMosaic.Adequacy
public import Idealize.ShloMosaic.Init

@[expose] public section

noncomputable section

namespace Cert.Proof

open Idealize.ShloMosaic Idealize.SL.Sem Cert.KernelIdeal.Encoder

/-- The reference's run ends with every counter zero and its arguments as they were. -/
theorem reference_frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- At the ideal instance the kernel and the reference end with the same array. -/
theorem value : Cert.algebraic_KernelIdeal_ReferenceIdeal_pre_drawn := by
  intro m g m' g' hpre hagree
  refine ⟨fun c => (Cert.KernelIdeal.Gen.dats m 0 c).arrAt 4 Cert.KernelIdeal.cfg0.N, Cert.KernelIdeal.Value.run_blocks m g, ?_⟩
  refine (θ_run Cert.ReferenceIdeal.defs _ _).mono (fun _ h c => ⟨(h c).1.trans ?_, (h c).2⟩) (Cert.ReferenceIdeal.Value.run (F := Ideal) m' g')
  obtain ⟨e0, e1, e2, e3, e4, e5, e6, e7, e8, e9, e10, e11, e12, e13⟩ := hagree c
  refine (Cert.ReferenceIdeal.Encoder.res_eq m' c).trans ?_
  rw [e0, e1, e2, e3, e4, e5, e6, e7, e8, e9, e10, e11, e12, e13]
  obtain ⟨hx, ht, h0, h1, h2⟩ := Cert.Pre_drawn.Read.read _ _ _ _ _ _ _ _ _ _ _ _ _ _ (hpre c)
  beta_reduce
  rw [final, types_entry, weights_entry, biases_entry, Cert.KernelIdeal.Gen.V_main_arg0]
  exact (Cert.Encoder.array_eq _ _ _ _ _ _ _ _ _ _ _ _ _ _ _ hx ht h0 h1 h2).symm

/-- All the claims: the three frames, the kernel being its own ideal program, and the equal arrays. -/
theorem claim : Cert.Claim :=
  ⟨Cert.Kernel.Gen.facts, Cert.KernelIdeal.Gen.facts, Cert.ReferenceIdeal.Gen.facts, Cert.Pre_drawn.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, value⟩

end Cert.Proof

end
